-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_targets_name_classes [hPre_targets_name_classes : Cert.Pre_targets_name_classes.Facts] (m : (ℓ : Loc Cert.KernelIdeal.nD Cert.KernelIdeal.τ Cert.KernelIdeal.sig) → Buf (Elt Ideal) ℓ) : Prop :=
  ∀ c : Dev Cert.KernelIdeal.nD,
    (Cert.Pre_targets_name_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_targets_name_classes [hPre_targets_name_classes : Cert.Pre_targets_name_classes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_targets_name_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_targets_name_classes [hKernelIdeal : Cert.KernelIdeal.Facts] [hPre_targets_name_classes : Cert.Pre_targets_name_classes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_targets_name_classes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_targets_name_classes [hReferenceIdeal : Cert.ReferenceIdeal.Facts] [hPre_targets_name_classes : Cert.Pre_targets_name_classes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_targets_name_classes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_targets_name_classes [hKernelIdeal : Cert.KernelIdeal.Facts] [hReferenceIdeal : Cert.ReferenceIdeal.Facts] [hPre_targets_name_classes : Cert.Pre_targets_name_classes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_targets_name_classes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_targets_name_classes : Cert.Pre_targets_name_classes.Facts),
    quiescent_Kernel (hKernel := hKernel)
    ∧ quiescent_KernelIdeal (hKernelIdeal := hKernelIdeal)
    ∧ quiescent_KernelIdeal_pre_targets_name_classes (hKernelIdeal := hKernelIdeal) (hPre_targets_name_classes := hPre_targets_name_classes)
    ∧ quiescent_ReferenceIdeal (hReferenceIdeal := hReferenceIdeal)
    ∧ quiescent_ReferenceIdeal_pre_targets_name_classes (hReferenceIdeal := hReferenceIdeal) (hPre_targets_name_classes := hPre_targets_name_classes)
    ∧ preserves_Kernel_KernelIdeal
    ∧ algebraic_KernelIdeal_ReferenceIdeal_pre_targets_name_classes (hKernelIdeal := hKernelIdeal) (hReferenceIdeal := hReferenceIdeal) (hPre_targets_name_classes := hPre_targets_name_classes)
-- ==== Pre_targets_name_classes.lean ====
abbrev S16384x1000 : Shape := ⟨2, ![16384, 1000]⟩
abbrev S16384 : Shape := ⟨1, ![16384]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x1000 .f32) (main_arg1 : IVec S16384 32) : IVec S_ 1 :=
  let main_cst : FVec F S_ .f32 := constant S_ .f32 0x7F800000#32
  let main_v0 : FVec F S16384x1000 .f32 := broadcastInDim S16384x1000 ![] bcast_S_S16384x1000 main_cst
  let main_v1 : IVec S16384x1000 1 := cmpf .olt main_arg0 main_v0
  let main_c : IVec S_ 1 := constantI S_ 1 1#1
  let main_v2 : IVec S_ 1 := (fun x v => Host.reduce IntOp.andi x v reducesTo_S16384x1000_S_d0_1 h_S_) main_v1 main_c
  let main_c_0 : IVec S_ 32 := constantI S_ 32 0#32
  let main_v3 : IVec S16384 32 := broadcastInDim S16384 ![] bcast_S_S16384 main_c_0
  let main_v4 : IVec S16384 1 := cmpi .sge main_arg1 main_v3
  let main_c_1 : IVec S_ 1 := constantI S_ 1 1#1
  let main_v5 : IVec S_ 1 := (fun x v => Host.reduce IntOp.andi x v reducesTo_S16384_S_d0 h_S_) main_v4 main_c_1
  let main_v6 : IVec S_ 1 := andi main_v2 main_v5
  let main_c_2 : IVec S_ 32 := constantI S_ 32 1000#32
  let main_v7 : IVec S16384 32 := broadcastInDim S16384 ![] bcast_S_S16384 main_c_2
  let main_v8 : IVec S16384 1 := cmpi .slt main_arg1 main_v7
  let main_c_3 : IVec S_ 1 := constantI S_ 1 1#1
  let main_v9 : IVec S_ 1 := (fun x v => Host.reduce IntOp.andi x v reducesTo_S16384_S_d0 h_S_) main_v8 main_c_3
  let main_v10 : IVec S_ 1 := andi main_v6 main_v9
  main_v10
-- ==== Kernel.lean ====
abbrev S16384x1000 : Shape := ⟨2, ![16384, 1000]⟩
abbrev S16384 : Shape := ⟨1, ![16384]⟩
abbrev S4x1x4096 : Shape := ⟨3, ![4, 1, 4096]⟩
abbrev S1x1 : Shape := ⟨2, ![1, 1]⟩
abbrev S1x1x4096 : Shape := ⟨3, ![1, 1, 4096]⟩
abbrev S4096x1000 : Shape := ⟨2, ![4096, 1000]⟩
abbrev S1x1000 : Shape := ⟨2, ![1, 1000]⟩
abbrev S4096 : Shape := ⟨1, ![4096]⟩
abbrev S4096x1 : Shape := ⟨2, ![4096, 1]⟩
abbrev S1000 : Shape := ⟨1, ![1000]⟩
abbrev S1 : Shape := ⟨1, ![1]⟩
abbrev S_ : Shape := ⟨0, ![]⟩

abbrev nBuf : Space → Nat
  | .hbm => 5
  | .vmem => 6
  | .smem => 1
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S4x1x4096, .i32⟩
  | .hbm, ⟨3, _⟩ => ⟨S1x1, .f32⟩
  | .hbm, ⟨4, _⟩ => ⟨S_, .f32⟩
  | .local _ .vmem, ⟨0, _⟩ => ⟨S1x1x4096, .i32⟩
  | .local _ .vmem, ⟨1, _⟩ => ⟨S1x1x4096, .i32⟩
  | .local _ .vmem, ⟨2, _⟩ => ⟨S4096x1000, .f32⟩
  | .local _ .vmem, ⟨3, _⟩ => ⟨S4096x1000, .f32⟩
  | .local _ .vmem, ⟨4, _⟩ => ⟨S1x1000, .f32⟩
  | .local _ .vmem, ⟨5, _⟩ => ⟨S1x1000, .f32⟩
  | .local _ .smem, ⟨0, _⟩ => ⟨S1x1, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v32 : BitVec 1 := Scalar.cmpi .eq arg0 c3_i32
  let v33 : BitVec 32 := Scalar.extui v32
  let c0_i32_11 : BitVec 32 := 0#32
  let v34 : BitVec 1 := Scalar.cmpi .ne v33 c0_i32_11
  v34

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S16384x1000 : Shape := ⟨2, ![16384, 1000]⟩
abbrev S16384 : Shape := ⟨1, ![16384]⟩
abbrev S_ : Shape := ⟨0, ![]⟩
abbrev S1000 : Shape := ⟨1, ![1000]⟩
abbrev S16384x1 : Shape := ⟨2, ![16384, 1]⟩
abbrev S1 : Shape := ⟨1, ![1]⟩
abbrev S1x1 : Shape := ⟨2, ![1, 1]⟩
abbrev S16384x1x1 : Shape := ⟨3, ![16384, 1, 1]⟩
abbrev S1x1x1 : Shape := ⟨3, ![1, 1, 1]⟩

abbrev nBuf : Space → Nat
  | .hbm => 89
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S_, .i32⟩
  | .hbm, ⟨3, _⟩ => ⟨S1000, .i32⟩
  | .hbm, ⟨4, _⟩ => ⟨S_, .i32⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S_, .i32⟩
  | .hbm, ⟨9, _⟩ => ⟨S16384, .i32⟩
  | .hbm, ⟨10, _⟩ => ⟨S16384, .i1⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S16384x1, .i32⟩
  | .hbm, ⟨16, _⟩ => ⟨S_, .i32⟩
  | .hbm, ⟨17, _⟩ => ⟨S16384, .i32⟩
  | .hbm, ⟨18, _⟩ => ⟨S1000, .i32⟩
  | .hbm, ⟨19, _⟩ => ⟨S1000, .f32⟩
  | .hbm, ⟨20, _⟩ => ⟨S_, .f32⟩
  | .hbm, ⟨21, _⟩ => ⟨S1000, .f32⟩
  | .hbm, ⟨22, _⟩ => ⟨S1000, .f32⟩
  | .hbm, ⟨23, _⟩ => ⟨S_, .f32⟩
  | .hbm, ⟨24, _⟩ => ⟨S1000, .f32⟩
  | .hbm, ⟨25, _⟩ => ⟨S1000, .f32⟩
  | .hbm, ⟨26, _⟩ => ⟨S_, .f32⟩
  | .hbm, ⟨27, _⟩ => ⟨S_, .f32⟩
  | .hbm, ⟨28, _⟩ => ⟨S1000, .f32⟩
  | .hbm, ⟨29, _⟩ => ⟨S1000, .f32⟩
  | .hbm, ⟨30, _⟩ => ⟨S_, .f32⟩
  | .hbm, ⟨31, _⟩ => ⟨S1000, .f32⟩
  | .hbm, ⟨32, _⟩ => ⟨S1000, .f32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S1, .i32⟩
  | .hbm, ⟨42, _⟩ => ⟨S_, .i32⟩
  | .hbm, ⟨43, _⟩ => ⟨S16384x1, .i32⟩
  | .hbm, ⟨44, _⟩ => ⟨S16384x1, .i1⟩
  | .hbm, ⟨45, _⟩ => ⟨S1x1, .i32⟩
  | .hbm, ⟨46, _⟩ => ⟨S16384x1, .i32⟩
  | .hbm, ⟨47, _⟩ => ⟨S16384x1, .i1⟩
  | .hbm, ⟨48, _⟩ => ⟨S16384x1, .i1⟩
  | .hbm, ⟨49, _⟩ => ⟨S_, .i1⟩
  | .hbm, ⟨50, _⟩ => ⟨S16384, .i1⟩
  | .hbm, ⟨51, _⟩ => ⟨S16384, .f32⟩
  | .hbm, ⟨52, _⟩ => ⟨S_, .f32⟩
  | .hbm, ⟨53, _⟩ => ⟨S16384, .f32⟩
  | .hbm, ⟨54, _⟩ => ⟨S16384, .f32⟩
  | .hbm, ⟨55, _⟩ => ⟨S16384x1000, .f32⟩
  | .hbm, ⟨56, _⟩ => ⟨S_, .f32⟩
  | .hbm, ⟨57, _⟩ => ⟨S16384, .f32⟩
  | .hbm, ⟨58, _⟩ => ⟨S16384, .f32⟩
  | .hbm, ⟨59, _⟩ => ⟨S16384x1, .i32⟩
  | .hbm, ⟨60, _⟩ => ⟨S_, .i32⟩
  | .hbm, ⟨61, _⟩ => ⟨S16384x1, .i32⟩
  | .hbm, ⟨62, _⟩ => ⟨S16384x1, .i1⟩
  | .hbm, ⟨63, _⟩ => ⟨S_, .i32⟩
  | .hbm, ⟨64, _⟩ => ⟨S16384x1, .i32⟩
  | .hbm, ⟨65, _⟩ => ⟨S16384x1, .i32⟩
  | .hbm, ⟨66, _⟩ => ⟨S16384x1, .i32⟩
  | .hbm, ⟨67, _⟩ => ⟨S16384x1x1, .i32⟩
  | .hbm, ⟨68, _⟩ => ⟨S1, .i32⟩
  | .hbm, ⟨69, _⟩ => ⟨S_, .i32⟩
  | .hbm, ⟨70, _⟩ => ⟨S16384x1x1, .i32⟩
  | .hbm, ⟨71, _⟩ => ⟨S16384x1x1, .i1⟩
  | .hbm, ⟨72, _⟩ => ⟨S1x1x1, .i32⟩
  | .hbm, ⟨73, _⟩ => ⟨S16384x1x1, .i32⟩
  | .hbm, ⟨74, _⟩ => ⟨S16384x1x1, .i1⟩
  | .hbm, ⟨75, _⟩ => ⟨S16384x1x1, .i1⟩
  | .hbm, ⟨76, _⟩ => ⟨S_, .i1⟩
  | .hbm, ⟨77, _⟩ => ⟨S16384x1, .i1⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S16384, .f32⟩
  | .hbm, ⟨83, _⟩ => ⟨S16384, .f32⟩
  | .hbm, ⟨84, _⟩ => ⟨S16384, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_v1 : Ref sig .tc := ⟨.hbm, 7, rfl⟩
abbrev main_c_1 : Ref sig .tc := ⟨.hbm, 8, rfl⟩
abbrev main_v2 : Ref sig .tc := ⟨.hbm, 9, rfl⟩
abbrev main_v3 : Ref sig .tc := ⟨.hbm, 10, rfl⟩
abbrev main_c_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_cst : Ref sig .tc := ⟨.hbm, 52, rfl⟩
abbrev main_call1_v14 : Ref sig .tc := ⟨.hbm, 53, rfl⟩
abbrev main_v20 : Ref sig .tc := ⟨.hbm, 54, rfl⟩
abbrev main_v21 : Ref sig .tc := ⟨.hbm, 55, rfl⟩
abbrev main_cst_7 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_cst : Ref sig .tc := ⟨.hbm, 79, rfl⟩
abbrev main_call2_v14 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_cst_8 : Ref sig .tc := ⟨.hbm, 85, rfl⟩
abbrev main_v29 : Ref sig .tc := ⟨.hbm, 86, rfl⟩
abbrev main_cst_9 : Ref sig .tc := ⟨.hbm, 87, rfl⟩
abbrev main_v30 : Ref sig .tc := ⟨.hbm, 88, rfl⟩

abbrev nD : Nat := 1
abbrev τ : Topo := Topo.v7x

variable {F : FTy → Type} [FloatOps F]
-- ==== Proof.Cbl.Steps.lean ====
/- What one grid point leaves in the two carried rows and in the result's staging word: the payload of the one store
   that covers each. -/
module

public import proofs.«01_k».proof.Proof.Gen.KernelIdeal.Frame
public import Idealize.ShloMosaic.Lib.Pipeline.Value
public import Idealize.ShloMosaic.Lib.Tactic

@[expose] public section

noncomputable section

namespace Cert.KernelIdeal.Steps

open Cert.KernelIdeal Cert.KernelIdeal.Gen Idealize.ShloMosaic Idealize.ShloMosaic.TcCoe Idealize.SL.Sem

variable {F : FTy → Type} [FloatOps F]

theorem zero2 : (![0, 0] : Fin 2 → Nat) = fun _ => 0 := by decide
theorem zero3 : (![0, 0, 0] : Fin 3 → Nat) = fun _ => 0 := by decide

section
variable (c : Dev nD) (i : grid0.Coords) (a1 : Memref sig .tc .vmem S1x1x4096 .i32) (h1 : a1.IsWhole)
  (a2 : Memref sig .tc .vmem S4096x1000 .f32) (h2 : a2.IsWhole) (a3 : Memref sig .tc .smem S1x1 .f32) (h3 : a3.IsWhole)
  (a4 : Memref sig .tc .vmem S1x1000 .f32) (h4 : a4.IsWhole) (a5 : Memref sig .tc .vmem S1x1000 .f32) (h5 : a5.IsWhole)
  (t : Vec F S1x1x4096 .i32) (x : Vec F S4096x1000 .f32) (n s : Vec F S1x1000 .f32)

/-- The first point stores the block's counts into the counts row. -/
theorem counts_first (p0 : cond0_0 i) (p1 : ¬cond0_1 i) (p2 : ¬cond0_2 i) :
    sout0_A_0 c i a1 h1 a2 h2 a3 h3 a4 h4 a5 h5 p0 p1 p2 t x = k0_pay4 t := by
  unfold sout0_A_0
  rw [View.read_writes_eq_canon _ _ _ (scover0_A_0 c i a1 h1 a2 h2 a3 h3 a4 h4 a5 h5 p0 p1 p2 t x)]
  unfold kernelRun0_A
  dsimp only
  rw [View.canon_unit_zero zero2]
  simp only [View.readAt_eq_ld, h1.read_unread, h2.read_unread, View.ld_unit_zero (S := S1x1x4096) zero3]

/-- The first point stores the block's loss sums into the sums row. -/
theorem sums_first (p0 : cond0_0 i) (p1 : ¬cond0_1 i) (p2 : ¬cond0_2 i) :
    sout0_A_1 c i a1 h1 a2 h2 a3 h3 a4 h4 a5 h5 p0 p1 p2 t x = k0_pay5 x t := by
  unfold sout0_A_1
  rw [View.read_writes_eq_canon _ _ _ (scover0_A_1 c i a1 h1 a2 h2 a3 h3 a4 h4 a5 h5 p0 p1 p2 t x)]
  unfold kernelRun0_A
  dsimp only
  rw [View.canon_unit_zero zero2]
  simp only [View.readAt_eq_ld, h1.read_unread, h2.read_unread, View.ld_unit_zero (S := S1x1x4096) zero3,
    View.ld_unit_zero (S := S4096x1000) zero2]

/-- A middle point adds the block's counts to the counts row. -/
theorem counts_mid (p0 : ¬cond0_0 i) (p1 : cond0_1 i) (p2 : ¬cond0_2 i) :
    sout0_B_0 c i a1 h1 a2 h2 a3 h3 a4 h4 a5 h5 p0 p1 p2 t x n s = k0_pay6 t n := by
  unfold sout0_B_0
  rw [View.read_writes_eq_canon _ _ _ (scover0_B_0 c i a1 h1 a2 h2 a3 h3 a4 h4 a5 h5 p0 p1 p2 t x n s)]
  unfold kernelRun0_B
  dsimp only
  rw [View.canon_unit_zero zero2]
  simp only [View.readAt_eq_ld, h1.read_unread, h2.read_unread, h4.read_unread, View.ld_unit_zero (S := S1x1x4096) zero3,
    View.ld_unit_zero (S := S4096x1000) zero2, View.ld_unit_zero (S := S1x1000) zero2]

/-- A middle point adds the block's loss sums to the sums row. -/
theorem sums_mid (p0 : ¬cond0_0 i) (p1 : cond0_1 i) (p2 : ¬cond0_2 i) :
    sout0_B_1 c i a1 h1 a2 h2 a3 h3 a4 h4 a5 h5 p0 p1 p2 t x n s = k0_pay7 x t s := by
  unfold sout0_B_1
  rw [View.read_writes_eq_canon _ _ _ (scover0_B_1 c i a1 h1 a2 h2 a3 h3 a4 h4 a5 h5 p0 p1 p2 t x n s)]
  unfold kernelRun0_B
  dsimp only
  rw [View.canon_unit_zero zero2]
  simp only [View.readAt_eq_ld, h1.read_unread, h2.read_unread, h5.read_unread, View.ld_unit_zero (S := S1x1x4096) zero3,
    View.ld_unit_zero (S := S4096x1000) zero2, View.ld_unit_zero (S := S1x1000) zero2]

/-- The last point combines the two rows, each with its own block added, into the result word. -/
theorem result_last (p0 : ¬cond0_0 i) (p1 : cond0_1 i) (p2 : cond0_2 i) :
    out0_C_2 c i a1 h1 a2 h2 a3 h3 a4 h4 a5 h5 p0 p1 p2 t x n s = fun _ => k0_pay8 (k0_pay6 t n) (k0_pay7 x t s) := by
  unfold out0_C_2
  rw [View.read_writes_eq_canon _ _ _ (cover0_C_2 c i a1 h1 a2 h2 a3 h3 a4 h4 a5 h5 p0 p1 p2 t x n s)]
  unfold kernelRun0_C
  dsimp only
  sl_unfold_words
  rw [View.canon_unit_zero zero2]
  simp only [View.readCov_unit_zero (S := S1x1000) _ zero2]
  simp only [View.readAt_eq_ld, h1.read_unread, h2.read_unread, h4.read_unread, h5.read_unread, View.ld_unit_zero (S := S1x1x4096) zero3,
    View.ld_unit_zero (S := S4096x1000) zero2, View.ld_unit_zero (S := S1x1000) zero2]
  rfl

end

end Cert.KernelIdeal.Steps

end
-- ==== Proof.Cbl.Real.lean ====
/- Extended-real arithmetic: sums weighted by positive reals, and the two ways to write a log-sum-exp. -/
module

public import Idealize.ShloMosaic.Lib.Pointwise
public import Mathlib.Data.EReal.Operations

@[expose] public section

noncomputable section

namespace Cert.Cbl

open Idealize.ShloMosaic

/-- A real factor on the right distributes over a sum of two extended reals when it is positive. -/
theorem add_mul_pos {k : ℝ} (hk : 0 < k) (a b : EReal) : (a + b) * (k : EReal) = a * k + b * k := by
  induction a <;> induction b <;>
    simp [EReal.top_mul_coe_of_pos hk, EReal.bot_mul_coe_of_pos hk, ← EReal.coe_add, ← EReal.coe_mul, add_mul]

/-- A positive real factor on the right distributes over a finite sum of extended reals. -/
theorem sum_mul_pos {ι : Type} (s : Finset ι) {k : ℝ} (hk : 0 < k) (f : ι → EReal) :
    (∑ i ∈ s, f i) * (k : EReal) = ∑ i ∈ s, f i * k := by
  classical
  induction s using Finset.induction_on with
  | empty => simp
  | insert a s ha ih => rw [Finset.sum_insert ha, Finset.sum_insert ha, add_mul_pos hk, ih]

/-- The quotient of two reals is their real quotient when the divisor is not zero. -/
theorem div_coe (a : ℝ) {b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

/-- A sum of reals is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- One where the condition holds and zero elsewhere. -/
def ind (p : Prop) [Decidable p] : EReal := if p then 1 else 0

/-- Zero times anything is zero and one times it is itself. -/
theorem ind_mul (p : Prop) [Decidable p] (x : EReal) : ind p * x = if p then x else 0 := by
  unfold ind; split <;> simp

/-- The one-hot sum of a row picks the named entry. -/
theorem pick {n : ℕ} (t : Fin n) (x : Fin n → EReal) : ∑ c, ind (c = t) * x c = x t := by
  simp [ind_mul]

/-- Below `⊤` the exponential is a real: that of the real part, or zero at `⊥`. -/
def rexp : EReal → ℝ
  | ⊥ => 0
  | ⊤ => 0
  | (r : ℝ) => Real.exp r

theorem rexp_nonneg (x : EReal) : 0 ≤ rexp x := by
  induction x with
  | bot => exact le_refl _
  | top => exact le_refl _
  | coe r => exact (Real.exp_pos r).le

theorem exp_eq_rexp {x : EReal} (hx : x < ⊤) : Ideal.exp x = (rexp x : EReal) := by
  induction x with
  | bot => rfl
  | top => exact absurd hx (lt_irrefl _)
  | coe r => rfl

/-- Shifting the argument down by a real divides the exponential by that real's exponential. -/
theorem exp_sub_coe {x : EReal} (hx : x < ⊤) (m : ℝ) : Ideal.exp (x - (m : EReal)) = ((rexp x * Real.exp (-m) : ℝ) : EReal) := by
  induction x with
  | bot =>
    rw [EReal.bot_sub]
    show (0 : EReal) = ((0 * Real.exp (-m) : ℝ) : EReal)
    simp
  | top => exact absurd hx (lt_irrefl _)
  | coe r =>
    rw [← EReal.coe_sub]
    show ((Real.exp (r - m) : ℝ) : EReal) = ((Real.exp r * Real.exp (-m) : ℝ) : EReal)
    rw [← Real.exp_add, sub_eq_add_neg]

theorem log_coe_pos {s : ℝ} (hs : 0 < s) : Ideal.log (s : EReal) = (Real.log s : EReal) := by
  show (if s ≤ 0 then (⊥ : EReal) else (Real.log s : EReal)) = _
  rw [if_neg (not_le.mpr hs)]

theorem log_zero : Ideal.log (0 : EReal) = ⊥ := by
  show (if (0 : ℝ) ≤ 0 then (⊥ : EReal) else (Real.log 0 : EReal)) = _
  rw [if_pos le_rfl]

/-- With no entry at `⊤`, the log-sum-exp shifted by the largest entry equals the unshifted one. -/
theorem shifted_logsumexp {n : ℕ} (x : Fin n → EReal) (hx : ∀ c, x c < ⊤) (M : EReal) (hle : ∀ c, x c ≤ M)
    (hM : M = ⊥ ∨ ∃ c, x c = M) :
    M + Ideal.log (∑ c, Ideal.exp (x c - M)) = Ideal.log (∑ c, Ideal.exp (x c)) := by
  induction M with
  | top =>
    rcases hM with h | ⟨c, h⟩
    · exact absurd h (by simp)
    · exact absurd (hx c) (by simp [h])
  | bot =>
    have h : ∀ c, x c = ⊥ := fun c => le_bot_iff.mp (hle c)
    have e : ∑ c, Ideal.exp (x c) = 0 := Finset.sum_eq_zero fun c _ => by rw [h c]; rfl
    rw [EReal.bot_add, e, log_zero]
  | coe m =>
    obtain ⟨c₀, h₀⟩ : ∃ c, x c = (m : EReal) := by
      rcases hM with h | h
      · exact absurd h (EReal.coe_ne_bot m)
      · exact h
    have hS : 0 < ∑ c, rexp (x c) :=
      Finset.sum_pos' (fun c _ => rexp_nonneg _) ⟨c₀, Finset.mem_univ _, by rw [h₀]; exact Real.exp_pos m⟩
    have e1 : ∑ c, Ideal.exp (x c) = ((∑ c, rexp (x c) : ℝ) : EReal) := by
      rw [← coe_sum]; exact Finset.sum_congr rfl fun c _ => exp_eq_rexp (hx c)
    have e2 : ∑ c, Ideal.exp (x c - (m : EReal)) = (((∑ c, rexp (x c)) * Real.exp (-m) : ℝ) : EReal) := by
      rw [Finset.sum_mul, ← coe_sum]; exact Finset.sum_congr rfl fun c _ => exp_sub_coe (hx c) m
    rw [e1, e2, log_coe_pos hS, log_coe_pos (mul_pos hS (Real.exp_pos _)), Real.log_mul hS.ne' (Real.exp_pos _).ne',
      Real.log_exp, ← EReal.coe_add]
    congr 1
    ring

/-- The running maximum from `⊥` bounds every entry and is `⊥` or one of them. -/
theorem fold_max {n : ℕ} (x : Fin n → EReal) :
    (∀ c, x c ≤ Finset.univ.fold max ⊥ x) ∧ (Finset.univ.fold max ⊥ x = ⊥ ∨ ∃ c, x c = Finset.univ.fold max ⊥ x) := by
  have e : Finset.univ.fold max ⊥ x = Finset.univ.sup x := rfl
  rw [e]
  refine ⟨fun c => Finset.le_sup (Finset.mem_univ c), ?_⟩
  rcases (Finset.univ : Finset (Fin n)).eq_empty_or_nonempty with h | h
  · left; rw [h]; rfl
  · right
    obtain ⟨c, _, hc⟩ := Finset.exists_mem_eq_sup _ h x
    exact ⟨c, hc.symm⟩

end Cert.Cbl

end
-- ==== Proof.Cbl.Blocks.lean ====
/- The arithmetic of one grid point, read entry by entry over the extended reals. -/
module

public import proofs.«01_k».proof.Proof.Gen.KernelIdeal.Skeleton
public import proofs.«01_k».proof.Proof.Cbl.Real

@[expose] public section

set_option maxRecDepth 16384

noncomputable section

namespace Cert.KernelIdeal.Blocks

open Cert.KernelIdeal Cert.KernelIdeal.Gen Cert.Cbl Idealize.ShloMosaic

variable (x : Vec Ideal S4096x1000 .f32) (t : Vec Ideal S1x1x4096 .i32)

/-- The word `-∞` denotes the least extended real. -/
theorem bits_bot : Ideal.ofBits .f32 0xFF800000#32 = ⊥ := by
  simp [Ideal.ofBits, Ideal.ieee]

section
variable {s : Shape} (a b : FVec Ideal s .f32) (i : s.Idx)

theorem mul_at : mulf a b i = (a i : EReal) * b i := rfl
theorem add_at : addf a b i = (a i : EReal) + b i := rfl
theorem sub_at : subf a b i = (a i : EReal) - b i := rfl
theorem exp_at : exp a i = Ideal.exp (a i) := rfl
theorem log_at : log a i = Ideal.log (a i) := rfl

end

/-- The sum along the rows of a block. -/
theorem row_sum (v : FVec Ideal S4096x1000 .f32) (r : Fin 4096) :
    multiReduction .add [1] S4096 v 0x00000000#32 reduces_S4096x1000_S4096 (.inl rfl) rfl (ix1 r) = ∑ c, v (ix2 r c) := by
  pointwise

/-- The sum along the columns of a block. -/
theorem col_sum (v : FVec Ideal S4096x1000 .f32) (c : Fin 1000) :
    multiReduction .add [0] S1000 v 0x00000000#32 reduces_S4096x1000_S1000 (.inl rfl) rfl (ix1 c) = ∑ r, v (ix2 r c) := by
  pointwise

/-- The largest entry of each row of a block. -/
theorem row_max (v : FVec Ideal S4096x1000 .f32) (r : Fin 4096) :
    multiReduction .maximumf [1] S4096 v 0xFF800000#32 reduces_S4096x1000_S4096 (.inl rfl) rfl (ix1 r)
      = Finset.univ.fold max (Ideal.ofBits .f32 0xFF800000#32) (fun c => v (ix2 r c)) := by
  pointwise

/-- A vector over the rows, spread along the columns, reads its row. -/
theorem spread (v : FVec Ideal S4096 .f32) (r : Fin 4096) (c : Fin 1000) :
    broadcastTo S4096x1000 (shapeCast S4096x1 v shapeCasts_S4096_S4096x1) broadcasts_S4096x1_S4096x1000 (ix2 r c) = v (ix1 r) := by
  pointwise

/-- A vector over the rows, made a column and back, is itself. -/
theorem back (v : FVec Ideal S4096 .f32) (r : Fin 4096) :
    shapeCast S4096 (shapeCast S4096x1 v shapeCasts_S4096_S4096x1) shapeCasts_S4096x1_S4096 (ix1 r) = v (ix1 r) := by
  pointwise

/-- The largest entry of each row. -/
def top : FVec Ideal S4096 .f32 :=
  multiReduction .maximumf [1] S4096 x 0xFF800000#32 reduces_S4096x1000_S4096 (.inl rfl) rfl

/-- The exponentials of the entries shifted by their row's largest. -/
def shifted : FVec Ideal S4096x1000 .f32 :=
  exp (subf x (broadcastTo S4096x1000 (shapeCast S4096x1 (top x) shapeCasts_S4096_S4096x1) broadcasts_S4096x1_S4096x1000))

/-- The loss of each row: the shifted log-sum-exp less the picked entry. -/
def loss : FVec Ideal S4096 .f32 :=
  subf (addf (shapeCast S4096 (shapeCast S4096x1 (top x) shapeCasts_S4096_S4096x1) shapeCasts_S4096x1_S4096)
      (log (multiReduction .add [1] S4096 (shifted x) 0x00000000#32 reduces_S4096x1000_S4096 (.inl rfl) rfl)))
    (multiReduction .add [1] S4096 (mulf (k0_pay1 t) x) 0x00000000#32 reduces_S4096x1000_S4096 (.inl rfl) rfl)

/-- The column sums of the losses, in terms of the row losses. -/
theorem pay3_eq :
    k0_pay3 x t = multiReduction .add [0] S1000 (mulf (k0_pay1 t)
      (broadcastTo S4096x1000 (shapeCast S4096x1 (loss x t) shapeCasts_S4096_S4096x1) broadcasts_S4096x1_S4096x1000))
      0x00000000#32 reduces_S4096x1000_S1000 (.inl rfl) rfl := rfl

/-- The mask is one where the column's number is the row's target word, zero elsewhere. -/
theorem mask_apply (r : Fin 4096) (c : Fin 1000) :
    k0_pay1 t (ix2 r c) = ind (BitVec.ofNat 32 c.val = t (ix3 0 0 r)) := by
  pointwise [k0_pay1]
  show ((BitVec.setWidth 32 (IntOp.cmpi .eq (BitVec.ofNat 32 c.val) (t (ix3 0 0 r)))).toInt : ℝ).toEReal = _
  unfold ind
  by_cases h : BitVec.ofNat 32 c.val = t (ix3 0 0 r)
  · simp [IntOp.cmpi, h]
  · rw [show IntOp.cmpi .eq (BitVec.ofNat 32 c.val) (t (ix3 0 0 r)) = 0#1 from
      congrArg BitVec.ofBool (beq_eq_false_iff_ne.mpr h), if_neg h]
    simp

/-- The shape of a row loss, for any row vector and any two blocks in its places. -/
theorem loss_shape (m : FVec Ideal S4096 .f32) (e p : FVec Ideal S4096x1000 .f32) (r : Fin 4096) :
    subf (addf (shapeCast S4096 (shapeCast S4096x1 m shapeCasts_S4096_S4096x1) shapeCasts_S4096x1_S4096)
      (log (multiReduction .add [1] S4096 e 0x00000000#32 reduces_S4096x1000_S4096 (.inl rfl) rfl)))
      (multiReduction .add [1] S4096 p 0x00000000#32 reduces_S4096x1000_S4096 (.inl rfl) rfl) (ix1 r)
      = ((m (ix1 r) : EReal) + Ideal.log (∑ c, e (ix2 r c))) - ∑ c, p (ix2 r c) := by
  rw [sub_at, add_at, log_at, back, row_sum, row_sum]

/-- A shifted exponential, for any row vector in the place of the largest entries. -/
theorem shift_shape (v : FVec Ideal S4096x1000 .f32) (m : FVec Ideal S4096 .f32) (r : Fin 4096) (c : Fin 1000) :
    exp (subf v (broadcastTo S4096x1000 (shapeCast S4096x1 m shapeCasts_S4096_S4096x1) broadcasts_S4096x1_S4096x1000)) (ix2 r c)
      = Ideal.exp ((v (ix2 r c) : EReal) - m (ix1 r)) := by
  rw [exp_at, sub_at, spread]

/-- A masked column sum, for any block and any row vector in its places. -/
theorem masked_shape (v : FVec Ideal S4096x1000 .f32) (m : FVec Ideal S4096 .f32) (c : Fin 1000) :
    multiReduction .add [0] S1000 (mulf v
      (broadcastTo S4096x1000 (shapeCast S4096x1 m shapeCasts_S4096_S4096x1) broadcasts_S4096x1_S4096x1000))
      0x00000000#32 reduces_S4096x1000_S1000 (.inl rfl) rfl (ix1 c) = ∑ r, (v (ix2 r c) : EReal) * m (ix1 r) := by
  rw [col_sum]
  refine Finset.sum_congr rfl fun r _ => ?_
  rw [mul_at, spread]

/-- With no entry at `⊤` the row loss is the plain log-sum-exp less the picked entry. -/
theorem loss_plain (hx : ∀ r c, x (ix2 r c) < ⊤) (r : Fin 4096) (k : Fin 1000) (hk : t (ix3 0 0 r) = BitVec.ofNat 32 k.val) :
    loss x t (ix1 r) = Ideal.log (∑ c, Ideal.exp (x (ix2 r c))) - x (ix2 r k) := by
  have hm : top x (ix1 r) = Finset.univ.fold max ⊥ (fun c => x (ix2 r c)) := by
    unfold top; rw [row_max, bits_bot]
  have hf := fold_max fun c => x (ix2 r c)
  have h1 : ∀ c, shifted x (ix2 r c) = Ideal.exp ((x (ix2 r c) : EReal) - Finset.univ.fold max ⊥ (fun c => x (ix2 r c))) := fun c => by
    unfold shifted; rw [shift_shape, hm]
  have h2 : ∀ c, mulf (k0_pay1 t) x (ix2 r c) = ind (c = k) * x (ix2 r c) := fun c => by
    have : (BitVec.ofNat 32 c.val = BitVec.ofNat 32 k.val) ↔ c = k := by
      constructor
      · intro h
        have := congrArg BitVec.toNat h
        simp only [BitVec.toNat_ofNat] at this
        apply Fin.ext; omega
      · rintro rfl; rfl
    rw [mul_at, mask_apply, hk]
    simp only [ind, this]
  unfold loss
  rw [loss_shape, hm, Finset.sum_congr rfl fun c _ => h1 c, Finset.sum_congr rfl fun c _ => h2 c,
    shifted_logsumexp (fun c => x (ix2 r c)) (hx r) _ hf.1 hf.2, pick k fun c => x (ix2 r c)]

/-- A row over the classes, made a `1 × 1000` row, reads its class. -/
theorem as_row (v : FVec Ideal S1000 .f32) (c : Fin 1000) :
    shapeCast S1x1000 v shapeCasts_S1000_S1x1000 (ix2 0 c) = v (ix1 c) := by
  pointwise

/-- A `1 × 1000` row, made a vector over the classes, reads its class. -/
theorem as_vec (v : FVec Ideal S1x1000 .f32) (c : Fin 1000) :
    shapeCast S1000 v shapeCasts_S1x1000_S1000 (ix1 c) = v (ix2 0 c) := by
  pointwise

/-- A block's counts: how many rows name each class. -/
theorem counts_apply (c : Fin 1000) : k0_pay2 t (ix1 c) = ∑ r, k0_pay1 t (ix2 r c) := col_sum _ c

/-- A block's loss sums: the losses of the rows naming each class. -/
theorem sums_apply (c : Fin 1000) : k0_pay3 x t (ix1 c) = ∑ r, (k0_pay1 t (ix2 r c) : EReal) * loss x t (ix1 r) := by
  rw [pay3_eq, masked_shape]

/-- The counts row after the first point. -/
theorem pay4_apply (c : Fin 1000) : k0_pay4 t (ix2 0 c) = ∑ r, k0_pay1 t (ix2 r c) := by
  unfold k0_pay4
  rw [as_row, counts_apply]

/-- The sums row after the first point. -/
theorem pay5_apply (c : Fin 1000) : k0_pay5 x t (ix2 0 c) = ∑ r, (k0_pay1 t (ix2 r c) : EReal) * loss x t (ix1 r) := by
  unfold k0_pay5
  rw [as_row, sums_apply]

/-- The counts row after a later point. -/
theorem pay6_apply (n : Vec Ideal S1x1000 .f32) (c : Fin 1000) :
    k0_pay6 t n (ix2 0 c) = (n (ix2 0 c) : EReal) + ∑ r, k0_pay1 t (ix2 r c) := by
  unfold k0_pay6
  rw [as_row, add_at, counts_apply, as_vec]

/-- The sums row after a later point. -/
theorem pay7_apply (s : Vec Ideal S1x1000 .f32) (c : Fin 1000) :
    k0_pay7 x t s (ix2 0 c) = (s (ix2 0 c) : EReal) + ∑ r, (k0_pay1 t (ix2 r c) : EReal) * loss x t (ix1 r) := by
  unfold k0_pay7
  rw [as_row, add_at, sums_apply, as_vec]

/-- The last point's result from the two rows. -/
theorem pay8_apply (n s : Vec Ideal S1x1000 .f32) :
    k0_pay8 n s = Ideal.div
      ((∑ c, s (ix2 0 c) * Ideal.div 1 (n (ix2 0 c) + Ideal.ofBits .f32 0x3727C5AC#32))
        * Ideal.div (Ideal.ofBits .f32 0x447A0000#32) (∑ c, Ideal.div 1 (n (ix2 0 c) + Ideal.ofBits .f32 0x3727C5AC#32)))
      (Ideal.ofBits .f32 0x46800000#32) := by
  unfold k0_pay8
  dsimp only
  pointwise []

end Cert.KernelIdeal.Blocks

end
-- ==== Proof.Cbl.Sweep.lean ====
/- The kernel's sweep over the four grid points: the two carried rows, the result array after the run, and the blocks
   as rows of the arguments. -/
module

public import proofs.«01_k».proof.Proof.Cbl.Steps
public import proofs.«01_k».proof.Proof.Cbl.Blocks
public import Idealize.ShloMosaic.Lib.Pipeline.ValueKit
public import Idealize.ShloMosaic.Lib.Claim

@[expose] public section

set_option maxRecDepth 16384

noncomputable section

namespace Cert.KernelIdeal.Sweep

open Cert.KernelIdeal Cert.KernelIdeal.Gen Cert.KernelIdeal.Steps Cert.Cbl Idealize.ShloMosaic Idealize.ShloMosaic.TcCoe
open Idealize.SL.Sem

section
variable {F : FTy → Type} [FloatOps F]
variable (m : (ℓ : Loc nD τ sig) → Buf (Elt F) ℓ) (c : Dev nD)

/-- The targets block that point `t` reads. -/
abbrev tb (t : Fin cfg0.N) : Vec F S1x1x4096 .i32 := iblk m c 0 t
/-- The logits block that point `t` reads. -/
abbrev xb (t : Fin cfg0.N) : Vec F S4096x1000 .f32 := iblk m c 1 t

/-- The counts row after the points 0, 1 and 2. -/
def counts : Vec F S1x1000 .f32 := k0_pay6 (tb m c t0_2) (k0_pay6 (tb m c t0_1) (k0_pay4 (tb m c t0_0)))
/-- The sums row after the points 0, 1 and 2. -/
def sums : Vec F S1x1000 .f32 :=
  k0_pay7 (xb m c t0_2) (tb m c t0_2) (k0_pay7 (xb m c t0_1) (tb m c t0_1) (k0_pay5 (xb m c t0_0) (tb m c t0_0)))

/-- After the first point the two rows hold the first block's counts and sums. -/
theorem rows0 : (outsAt0 m c t0_0.val t0_0.isLt).2 = (k0_pay4 (tb m c t0_0), k0_pay5 (xb m c t0_0) (tb m c t0_0)) := by
  rw [outsAt0_A m c t0_0 (by decide) (by decide) (by decide)]
  dsimp only
  rw [counts_first, sums_first]

/-- A middle point adds its block to the two rows. -/
theorem rows_step (t : Fin cfg0.N) (h0 : ¬t.val % 4 = 0) (h1 : 1 ≤ t.val) (h2 : ¬t.val % 4 = 3) (n s : Vec F S1x1000 .f32)
    (h : (outsAt0 m c (t.val - 1) (Nat.lt_of_le_of_lt (Nat.sub_le _ _) t.isLt)).2 = (n, s)) :
    (outsAt0 m c t.val t.isLt).2 = (k0_pay6 (tb m c t) n, k0_pay7 (xb m c t) (tb m c t) s) := by
  rw [outsAt0_B m c t h0 h1 h2]
  dsimp only
  rw [counts_mid, sums_mid, h]

/-- The two rows before the last point. -/
theorem rows2 : (outsAt0 m c t0_2.val t0_2.isLt).2 = (counts m c, sums m c) :=
  rows_step m c t0_2 (by decide) (by decide) (by decide) _ _
    (rows_step m c t0_1 (by decide) (by decide) (by decide) _ _ (rows0 m c))

/-- The word the kernel computes. -/
def word : F .f32 := k0_pay8 (k0_pay6 (tb m c t0_3) (counts m c)) (k0_pay7 (xb m c t0_3) (tb m c t0_3) (sums m c))

/-- The last point leaves the computed word in the result's staging buffer. -/
theorem last : (outsAt0 m c t0_3.val t0_3.isLt).1 = fun _ => word m c := by
  rw [outsAt0_C m c t0_3 (by decide) (by decide) (by decide)]
  have h : (outsAt0 m c (t0_3.val - 1) (Nat.lt_of_le_of_lt (Nat.sub_le _ _) t0_3.isLt)).2 = (counts m c, sums m c) :=
    rows2 m c
  dsimp only
  rw [result_last, h]
  rfl

/-- The result array after the run holds the computed word. -/
theorem array : (dats m 0 c).arrAt 2 cfg0.N = fun _ => word m c := by
  refine (dats m 0 c).arrAt_eq_of_after_last 2 t0_3 (by decide +kernel) _ fun j => ?_
  blk_simp
  rw [after0_2, last]

end

end Cert.KernelIdeal.Sweep

end
-- ==== Proof.Cbl.Reads.lean ====
/- The blocks that the four points read, as rows of the two arguments. -/
module

public import proofs.«01_k».proof.Proof.Cbl.Sweep

@[expose] public section

set_option maxRecDepth 16384

noncomputable section

namespace Cert.KernelIdeal.Reads

open Cert.KernelIdeal Cert.KernelIdeal.Gen Cert.KernelIdeal.Sweep Cert.Cbl Idealize.ShloMosaic Idealize.ShloMosaic.TcCoe
open Idealize.SL.Sem

variable {F : FTy → Type} [FloatOps F]
variable (m : (ℓ : Loc nD τ sig) → Buf (Elt F) ℓ) (c : Dev nD)

/-- The logits, as the run finds them. -/
abbrev logits : Vec F S16384x1000 .f32 := m ((c.tc : Thread nD τ).loc main_arg0)
/-- The targets, as the run finds them. -/
abbrev targets : Vec F S16384 .i32 := m ((c.tc : Thread nD τ).loc main_arg1)

theorem place : ∀ t : Fin grid0.N, win0_0.index t = ![t.val, 0, 0] ∧ win0_1.index t = ![t.val, 0] := by decide +kernel

/-- Row `r` of block `t`, among all the rows. -/
def row (t : Fin 4) (r : Fin 4096) : Fin 16384 := ⟨4096 * t.val + r.val, by omega⟩

/-- The logits block of point `j` holds the rows from `4096 j` on. -/
theorem xb_apply (t : Fin cfg0.N) (j : Fin 4) (h : t.val = j.val) (r : Fin 4096) (k : Fin 1000) :
    xb m c t (ix2 r k) = logits m c (ix2 (row j r) k) := by
  blk_ext [xb, logits, iblk, V, row, place t]

/-- The reshaped targets, as the launch finds them. -/
theorem entry : V m c main_v0 = shapeCast S4x1x4096 (targets m c) shapeCasts_S16384_S4x1x4096 := by
  unfold V V0
  simp only [hostOps0, List.flatten_cons, List.flatten_nil, List.append_nil]
  after_results_simp
  rfl

/-- Reshaping into four pieces keeps the order of the targets. -/
theorem pieces (x : Vec F S16384 .i32) (j : Fin 4) (r : Fin 4096) :
    shapeCast S4x1x4096 x shapeCasts_S16384_S4x1x4096 (ix3 j 0 r) = x (ix1 (row j r)) := by
  pointwise
  blk_ext [row]

/-- Block `j` of the reshaped targets is its piece `j`. -/
theorem at_block (t : Fin cfg0.N) (j : Fin 4) (h : t.val = j.val) (r : Fin 4096) :
    (win0_0.blk t).view.emb (ix3 0 0 r) = ix3 j 0 r := by
  blk_ext [place t]

/-- The targets block of point `j` holds the targets from `4096 j` on. -/
theorem tb_apply (t : Fin cfg0.N) (j : Fin 4) (h : t.val = j.val) (r : Fin 4096) :
    tb m c t (ix3 0 0 r) = targets m c (ix1 (row j r)) := by
  show V m c main_v0 ((win0_0.blk t).view.emb (ix3 0 0 r)) = _
  rw [entry, at_block t j h, pieces]

end Cert.KernelIdeal.Reads

end
-- ==== Proof.Cbl.Balance.lean ====
/- The balanced mean, over the extended reals: weighting the classes' summed losses is weighting each row's loss. -/
module

public import proofs.«01_k».proof.Proof.Cbl.Real

@[expose] public section

noncomputable section

namespace Cert.Cbl

open Idealize.ShloMosaic

/-- How many rows carry class `c`, as a sum of ones. -/
theorem count_ind {R C : ℕ} (t : Fin R → Fin C) (c : Fin C) :
    ∑ r, ind (c = t r) = (((Finset.univ.filter fun r => c = t r).card : ℝ) : EReal) := by
  have h : ∀ r, ind (c = t r) = ((if c = t r then (1 : ℝ) else 0 : ℝ) : EReal) := fun r => by
    unfold ind; split <;> simp
  rw [Finset.sum_congr rfl fun r _ => h r, coe_sum]
  norm_num

/-- A class's weight is a positive real. -/
theorem weight_pos {R C : ℕ} (t : Fin R → Fin C) {e : ℝ} (he : 0 < e) :
    ∃ w : Fin C → ℝ, (∀ c, 0 < w c) ∧ ∀ c, Ideal.div 1 (∑ r, ind (c = t r) + (e : EReal)) = (w c : EReal) := by
  refine ⟨fun c => 1 / (((Finset.univ.filter fun r => c = t r).card : ℝ) + e), fun c => ?_, fun c => ?_⟩
  · positivity
  · have hp : (0 : ℝ) < ((Finset.univ.filter fun r => c = t r).card : ℝ) + e := by positivity
    rw [count_ind, ← EReal.coe_add, ← EReal.coe_one, div_coe 1 hp.ne']

/-- The classes' sums of losses, each times a positive weight, add up to the rows' losses times the weight of their class. -/
theorem swap_sums {R C : ℕ} (t : Fin R → Fin C) (L : Fin R → EReal) (w : Fin C → ℝ) (hw : ∀ c, 0 < w c) :
    ∑ c, (∑ r, ind (c = t r) * L r) * (w c : EReal) = ∑ r, L r * (w (t r) : EReal) := by
  calc ∑ c, (∑ r, ind (c = t r) * L r) * (w c : EReal)
      = ∑ c, ∑ r, ind (c = t r) * (L r * (w c : EReal)) :=
        Finset.sum_congr rfl fun c _ => (sum_mul_pos _ (hw c) _).trans (Finset.sum_congr rfl fun r _ => mul_assoc _ _ _)
    _ = ∑ r, ∑ c, ind (c = t r) * (L r * (w c : EReal)) := Finset.sum_comm
    _ = ∑ r, L r * (w (t r) : EReal) := Finset.sum_congr rfl fun r _ => pick (t r) fun c => L r * (w c : EReal)

/-- The kernel's way of weighting equals the reference's: the classes' sums times the weights and one scaled at the end, or
    each row's loss times the scaled weight of its class. -/
theorem balance {R C : ℕ} (hC : 0 < C) (t : Fin R → Fin C) (L : Fin R → EReal) {e K : ℝ} (he : 0 < e) (hK : 0 < K)
    (w : Fin C → EReal) (h : ∀ c, w c = Ideal.div 1 (∑ r, ind (c = t r) + (e : EReal))) :
    (∑ c, (∑ r, ind (c = t r) * L r) * w c) * Ideal.div (K : EReal) (∑ c, w c)
      = ∑ r, L r * (Ideal.div (w (t r)) (∑ c, w c) * (K : EReal)) := by
  obtain ⟨v, hv, e1⟩ := weight_pos t he
  have hw : w = fun c => (v c : EReal) := funext fun c => (h c).trans (e1 c)
  subst hw
  have hW : 0 < ∑ c, v c := Finset.sum_pos (fun c _ => hv c) ⟨⟨0, hC⟩, Finset.mem_univ _⟩
  rw [coe_sum, swap_sums t L v hv, div_coe K hW.ne', sum_mul_pos _ (div_pos hK hW)]
  refine Finset.sum_congr rfl fun r _ => ?_
  rw [div_coe _ hW.ne', mul_assoc, ← EReal.coe_mul, ← EReal.coe_mul]
  congr 2
  ring

/-- A sum over `n = a * b` rows, as the sum over `a` blocks of `b` rows each. -/
theorem by_blocks {a b n : ℕ} (hn : n = a * b) (f : Fin n → EReal) (row : Fin a → Fin b → Fin n)
    (hrow : ∀ j r, (row j r).val = b * j.val + r.val) : ∑ r, f r = ∑ j, ∑ r, f (row j r) := by
  subst hn
  rw [← Equiv.sum_comp finProdFinEquiv f, Fintype.sum_prod_type]
  refine Finset.sum_congr rfl fun j _ => Finset.sum_congr rfl fun r _ => congrArg f (Fin.ext ?_)
  rw [hrow, finProdFinEquiv_apply_val]
  exact Nat.add_comm _ _

/-- A sum over all the rows, as the sum over the four blocks in order. -/
theorem four_blocks (f : Fin 16384 → EReal) (row : Fin 4 → Fin 4096 → Fin 16384)
    (hrow : ∀ j r, (row j r).val = 4096 * j.val + r.val) :
    ∑ r, f r = ((∑ r, f (row 0 r) + ∑ r, f (row 1 r)) + ∑ r, f (row 2 r)) + ∑ r, f (row 3 r) := by
  rw [by_blocks (a := 4) (b := 4096) (by norm_num) f row hrow, Fin.sum_univ_four]

/-- The three words of the loss, as reals: the smoothing term, the number of classes and the number of rows. -/
theorem eps_word : ∃ e : ℝ, 0 < e ∧ Ideal.ofBits .f32 0x3727C5AC#32 = (e : EReal) := by
  refine ⟨_, ?_, by simp [Ideal.ofBits, Ideal.ieee]; rfl⟩
  positivity
theorem classes_word : ∃ K : ℝ, 0 < K ∧ Ideal.ofBits .f32 0x447A0000#32 = (K : EReal) := by
  refine ⟨_, ?_, by simp [Ideal.ofBits, Ideal.ieee]; rfl⟩
  positivity

end Cert.Cbl

end
-- ==== Proof.Cbl.Value.lean ====
/- The word the kernel computes, over the extended reals, from the two arguments. -/
module

public import proofs.«01_k».proof.Proof.Cbl.Reads
public import proofs.«01_k».proof.Proof.Cbl.Balance

@[expose] public section

set_option maxRecDepth 16384

noncomputable section

namespace Cert.KernelIdeal.Value

open Cert.KernelIdeal Cert.KernelIdeal.Gen Cert.KernelIdeal.Sweep Cert.KernelIdeal.Reads Cert.KernelIdeal.Blocks Cert.Cbl
open Idealize.ShloMosaic Idealize.ShloMosaic.TcCoe Idealize.SL.Sem

variable (m : (ℓ : Loc nD τ sig) → Buf (Elt Ideal) ℓ) (c : Dev nD) (k : Fin 16384 → Fin 1000)

/-- A row's loss: the logarithm of the sum of its exponentials, less the logit of its class. -/
def rowLoss (x : Vec Ideal S16384x1000 .f32) (r : Fin 16384) : EReal :=
  Ideal.log (∑ c, Ideal.exp (x (ix2 r c))) - x (ix2 r (k r))

/-- Words below `1000` name different classes. -/
theorem ind_word (a b : Fin 1000) : ind (BitVec.ofNat 32 a.val = BitVec.ofNat 32 b.val) = ind (a = b) := by
  have h : (BitVec.ofNat 32 a.val = BitVec.ofNat 32 b.val) ↔ a = b := by
    constructor
    · intro h
      have := congrArg BitVec.toNat h
      rw [BitVec.toNat_ofNat, BitVec.toNat_ofNat, Nat.mod_eq_of_lt (by omega), Nat.mod_eq_of_lt (by omega)] at this
      exact Fin.ext this
    · rintro rfl; rfl
  unfold ind
  simp only [h]

section
variable (ht : ∀ r, targets m c (ix1 r) = BitVec.ofNat 32 (k r).val)
include ht

/-- A block's mask marks the class of each of its rows. -/
theorem mask_block (t : Fin cfg0.N) (j : Fin 4) (h : t.val = j.val) (r : Fin 4096) (a : Fin 1000) :
    k0_pay1 (tb m c t) (ix2 r a) = ind (a = k (row j r)) := by
  rw [mask_apply, tb_apply m c t j h, ht, ind_word]

/-- What a block adds to a class's count. -/
theorem counts_block (t : Fin cfg0.N) (j : Fin 4) (h : t.val = j.val) (a : Fin 1000) :
    (∑ r, k0_pay1 (tb m c t) (ix2 r a) : EReal) = ∑ r, ind (a = k (row j r)) :=
  Finset.sum_congr rfl fun r _ => mask_block m c k ht t j h r a

section
variable (hx : ∀ r a, logits m c (ix2 r a) < (⊤ : EReal))
include hx

/-- A block's losses are its rows' losses. -/
theorem loss_block (t : Fin cfg0.N) (j : Fin 4) (h : t.val = j.val) (r : Fin 4096) :
    loss (xb m c t) (tb m c t) (ix1 r) = rowLoss k (logits m c) (row j r) := by
  rw [loss_plain (xb m c t) (tb m c t) (fun r a => by rw [xb_apply m c t j h]; exact hx _ _) r (k (row j r))
    (by rw [tb_apply m c t j h, ht]), xb_apply m c t j h]
  unfold rowLoss
  rw [Finset.sum_congr rfl fun a _ => congrArg Ideal.exp (xb_apply m c t j h r a)]

/-- What a block adds to a class's sum of losses. -/
theorem sums_block (t : Fin cfg0.N) (j : Fin 4) (h : t.val = j.val) (a : Fin 1000) :
    (∑ r, (k0_pay1 (tb m c t) (ix2 r a) : EReal) * loss (xb m c t) (tb m c t) (ix1 r) : EReal)
      = ∑ r, ind (a = k (row j r)) * rowLoss k (logits m c) (row j r) :=
  Finset.sum_congr rfl fun r _ => by rw [mask_block m c k ht t j h, loss_block m c k ht hx t j h]

end

/-- After the four points a class's count is over all the rows. -/
theorem counts_all (a : Fin 1000) :
    k0_pay6 (tb m c t0_3) (counts m c) (ix2 0 a) = ∑ r, ind (a = k r) := by
  unfold counts
  rw [pay6_apply, pay6_apply, pay6_apply, pay4_apply, counts_block m c k ht t0_0 0 rfl, counts_block m c k ht t0_1 1 rfl,
    counts_block m c k ht t0_2 2 rfl, counts_block m c k ht t0_3 3 rfl,
    four_blocks (fun r => ind (a = k r)) row fun _ _ => rfl]

variable (hx : ∀ r a, logits m c (ix2 r a) < (⊤ : EReal))
include hx

/-- After the four points a class's sum of losses is over all the rows. -/
theorem sums_all (a : Fin 1000) :
    k0_pay7 (xb m c t0_3) (tb m c t0_3) (sums m c) (ix2 0 a) = ∑ r, ind (a = k r) * rowLoss k (logits m c) r := by
  unfold sums
  rw [pay7_apply, pay7_apply, pay7_apply, pay5_apply, sums_block m c k ht hx t0_0 0 rfl, sums_block m c k ht hx t0_1 1 rfl,
    sums_block m c k ht hx t0_2 2 rfl, sums_block m c k ht hx t0_3 3 rfl,
    four_blocks (fun r => ind (a = k r) * rowLoss k (logits m c) r) row fun _ _ => rfl]

/-- The kernel's word is the mean over the rows of the loss times the scaled weight of the row's class. -/
theorem word_eq (w : Fin 1000 → EReal)
    (hw : ∀ a, w a = Ideal.div 1 (∑ r, ind (a = k r) + Ideal.ofBits .f32 0x3727C5AC#32)) :
    word m c = Ideal.div (∑ r, rowLoss k (logits m c) r * (Ideal.div (w (k r)) (∑ a, w a) * Ideal.ofBits .f32 0x447A0000#32))
      (Ideal.ofBits .f32 0x46800000#32) := by
  obtain ⟨e, he, e1⟩ := eps_word
  obtain ⟨K, hK, e2⟩ := classes_word
  have hw' : ∀ a, w a = Ideal.div 1 (∑ r, ind (a = k r) + (e : EReal)) := fun a => by rw [hw, e1]
  unfold word
  rw [pay8_apply]
  have hs : (∑ a, k0_pay7 (xb m c t0_3) (tb m c t0_3) (sums m c) (ix2 0 a)
        * Ideal.div 1 (k0_pay6 (tb m c t0_3) (counts m c) (ix2 0 a) + Ideal.ofBits .f32 0x3727C5AC#32) : EReal)
      = ∑ a, (∑ r, ind (a = k r) * rowLoss k (logits m c) r) * w a :=
    Finset.sum_congr rfl fun a _ => by rw [sums_all m c k ht hx, counts_all m c k ht, hw]
  have hn : (∑ a, Ideal.div 1 (k0_pay6 (tb m c t0_3) (counts m c) (ix2 0 a) + Ideal.ofBits .f32 0x3727C5AC#32) : EReal)
      = ∑ a, w a :=
    Finset.sum_congr rfl fun a _ => by rw [counts_all m c k ht, hw]
  rw [hs, hn, e2, balance (by norm_num) k (rowLoss k (logits m c)) he hK w hw']

end

end Cert.KernelIdeal.Value

end
-- ==== Proof.Cbl.Run.lean ====
/- The kernel's idealization, run from its arguments: what its result buffer holds at the end. -/
module

public import proofs.«01_k».proof.Proof.Cbl.Value

@[expose] public section

set_option maxRecDepth 16384

noncomputable section

namespace Cert.KernelIdeal.Value

open Cert.KernelIdeal Cert.KernelIdeal.Gen Cert.KernelIdeal.Sweep Idealize.ShloMosaic Idealize.ShloMosaic.TcCoe Idealize.SL.Sem

variable (m : (ℓ : Loc nD τ sig) → Buf (Elt Ideal) ℓ) (ρ : Dev nD → PrngReg)

/-- The three windows lie on three different arrays. -/
theorem arrays_differ : Function.Injective (Pipeline.arrRef spec0) := by
  unfold Function.Injective
  decide

/-- Reshaping an array that holds one value everywhere gives that value everywhere. -/
theorem one_value {s s' : Shape} {A : Type} (h : s.ShapeCasts s') (f : s.Idx → A) (v : A) (hf : f = fun _ => v) :
    shapeCast s' f h = fun _ => v := by
  subst hf
  rfl

/-- The kernel runs, its result holds the word that the last grid point stores, and its arguments end as they were. -/
theorem run : θ_run defs (onTc (τ := τ) (main (F := Ideal))) ⟨m, fun _ => 0, ρ⟩ (fun r => ∀ c : Dev nD,
      r.2.mem ((c.tc : Thread nD τ).loc main_v2) = (fun _ => word m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from KernelIdeal.Gen.run_main m ρ & KernelIdeal.Gen.unchanged m ρ
  unfold Pipeline.afterTail₀
  simp only [hostOps1, List.flatten_cons, List.flatten_nil, List.append_nil]
  after_results_simp
  exact one_value shapeCasts_S1x1_S_ _ _ ((Pipeline.withArrays_arr spec0 arrays_differ c (V0 m c) _ 2).trans (array m c))

end Cert.KernelIdeal.Value

end
-- ==== Proof.Cbl.Lookups.lean ====
/- The reference's integer steps, read at an index: its wrapped class words, its range tests, its two look-ups and its
   count of the classes. -/
module

public import proofs.«01_k».proof.Proof.Gen.ReferenceIdeal
public import proofs.«01_k».proof.Proof.Cbl.Balance
public import Idealize.ShloMosaic.Lib.Pointwise
public import Idealize.ShloMosaic.Lib.ReduceAll
public import Idealize.ShloMosaic.Lib.Routing.OpsPair

@[expose] public section

set_option maxRecDepth 16384

noncomputable section

namespace Cert.ReferenceIdeal.Lookups

open Cert.ReferenceIdeal Cert.ReferenceIdeal.Gen Cert.Cbl Idealize.ShloMosaic

/-- A class word is not negative, and at most `999`. -/
theorem word_tests (k : Fin 1000) :
    IntOp.cmpi .slt (BitVec.ofNat 32 k.val) 0#32 = 0#1 ∧ IntOp.cmpi .sge (BitVec.ofNat 32 k.val) 0#32 = 1#1
      ∧ IntOp.cmpi .sle (BitVec.ofNat 32 k.val) 999#32 = 1#1 := by
  revert k; decide +kernel

/-- A class word is itself when it is the larger of it and zero. -/
theorem word_max (k : Fin 1000) : IntOp.maxsi 0#32 (BitVec.ofNat 32 k.val) = BitVec.ofNat 32 k.val := by
  revert k; decide +kernel

/-- A class word, read as a signed integer, is the class. -/
theorem word_toInt (k : Fin 1000) : (BitVec.ofNat 32 k.val).toInt = (k.val : Int) := by
  revert k; decide +kernel

section
variable {s : Shape}

/-- Adding the number of classes to negative words leaves a class word as it is. -/
theorem wrap_at (v z n : IVec s 32) (hz : ∀ i, z i = 0#32) (i : s.Idx) (k : Fin 1000) (hv : v i = BitVec.ofNat 32 k.val) :
    select (cmpi .slt v z) (addi v n) v i = BitVec.ofNat 32 k.val := by
  show (if IntOp.cmpi .slt (v i) (z i) = 1#1 then _ else v i) = _
  rw [hz, hv, (word_tests k).1]
  rfl

/-- A class word passes the range test. -/
theorem range_at (v lo hi : IVec s 32) (hlo : ∀ i, lo i = 0#32) (hhi : ∀ i, hi i = 999#32) (i : s.Idx)
    (hv : ∃ k : Fin 1000, v i = BitVec.ofNat 32 k.val) : andi (cmpi .sge v lo) (cmpi .sle v hi) i = 1#1 := by
  obtain ⟨k, hv⟩ := hv
  show IntOp.andi (IntOp.cmpi .sge (v i) (lo i)) (IntOp.cmpi .sle (v i) (hi i)) = 1#1
  rw [hlo, hhi, hv, (word_tests k).2.1, (word_tests k).2.2]
  rfl

/-- Where the mask is set, the selection takes its first array. -/
theorem select_set {α : Type} (b : IVec s 1) (x y : s.Idx → α) (i : s.Idx) (h : b i = 1#1) : select b x y i = x i := by
  show (if b i = 1#1 then x i else y i) = x i
  rw [if_pos h]

end

/-- Looking up an entry of a table of `1000` by a column of class words. -/
theorem take_class {α : Type} (x : S1000.Idx → α) (idx : IVec S16384x1 32) (r : Fin 16384) (k : Fin 1000)
    (h : idx (ix2 r 0) = BitVec.ofNat 32 k.val) :
    Host.gather gather_S1000_S16384x1_S16384_n_0_n_n_0_1_1 x idx (ix1 r) = x (ix1 k) := by
  unfold Host.gather
  refine congrArg x (funext fun a => Fin.ext ?_)
  have hs : gather_S1000_S16384x1_S16384_n_0_n_n_0_1_1.siIdx (ix1 r) ⟨0, by decide⟩ = ix2 r 0 := by
    funext b
    match b with
    | ⟨0, _⟩ => rfl
    | ⟨1, _⟩ => rfl
  match a with
  | ⟨0, _⟩ =>
    show min (idx (gather_S1000_S16384x1_S16384_n_0_n_n_0_1_1.siIdx (ix1 r) ⟨0, by decide⟩)).toInt.toNat (1000 - 1) + 0 + 0 = k.val
    rw [hs, h, word_toInt]
    omega

/-- Looking up, in each row of a matrix, the column named by that row's class word. -/
theorem take_along {α : Type} (x : S16384x1000.Idx → α) (idx : IVec S16384x1x1 32) (r : Fin 16384) (k : Fin 1000)
    (h : idx (ix3 r 0 0) = BitVec.ofNat 32 k.val) :
    Host.gather gather_S16384x1000_S16384x1x1_S16384x1_n_1_0_0_1_2_11 x idx (ix2 r 0) = x (ix2 r k) := by
  unfold Host.gather
  refine congrArg x (funext fun a => Fin.ext ?_)
  have hs : gather_S16384x1000_S16384x1x1_S16384x1_n_1_0_0_1_2_11.siIdx (ix2 r 0) ⟨0, by decide⟩ = ix3 r 0 0 := by
    funext b
    match b with
    | ⟨0, _⟩ => rfl
    | ⟨1, _⟩ => rfl
    | ⟨2, _⟩ => rfl
  match a with
  | ⟨0, _⟩ =>
    show 0 + r.val + 0 = r.val
    omega
  | ⟨1, _⟩ =>
    show min (idx (gather_S16384x1000_S16384x1x1_S16384x1_n_1_0_0_1_2_11.siIdx (ix2 r 0) ⟨0, by decide⟩)).toInt.toNat (1000 - 1) + 0 + 0 = k.val
    rw [hs, h, word_toInt]
    omega

/-- Where a scattered one lands: at the class its word names. -/
theorem lands (idx : IVec S16384x1 32) (r : Fin 16384) (k a : Fin 1000) (h : idx (ix2 r 0) = BitVec.ofNat 32 k.val) :
    scatter_S1000_S16384x1_S16384_n_0_0_1.resultIdx? (ix1 r) idx = some (ix1 a) ↔ a = k := by
  have hs : scatter_S1000_S16384x1_S16384_n_0_0_1.siIdx (ix1 r) ⟨0, by decide⟩ = ix2 r 0 := by
    funext b
    match b with
    | ⟨0, _⟩ => rfl
    | ⟨1, _⟩ => rfl
  have e : scatter_S1000_S16384x1_S16384_n_0_0_1.start (ix1 r) idx 0
      + (scatter_S1000_S16384x1_S16384_n_0_0_1.window (ix1 r) 0 : Int) = (k.val : Int) := by
    show (idx (scatter_S1000_S16384x1_S16384_n_0_0_1.siIdx (ix1 r) ⟨0, by decide⟩)).toInt + ((0 : Nat) : Int) = _
    rw [hs, h, word_toInt]
    omega
  rw [Routing.resultIdx?_eq_some]
  constructor
  · intro q
    have := q 0
    rw [e] at this
    exact Fin.ext (by exact_mod_cast this.symm)
  · rintro rfl b
    match b with
    | ⟨0, _⟩ => exact e

/-- Adding a one at each step that qualifies adds their number. -/
theorem foldl_ones {ι : Type} (l : List ι) (g : ι → ℕ) (z : ℕ) :
    l.foldl (fun a n => a + BitVec.ofNat 32 (g n)) (BitVec.ofNat 32 z) = BitVec.ofNat 32 (z + (l.map g).sum) := by
  induction l generalizing z with
  | nil => simp
  | cons n l ih => rw [List.foldl_cons, ← BitVec.ofNat_add, ih, List.map_cons, List.sum_cons, Nat.add_assoc]

theorem rows_numel : S16384.numel = 16384 := by decide +kernel

/-- The row at a row-major position of a vector is that position. -/
theorem row_at (n : Fin S16384.numel) : S16384.rowMajor.symm n = ix1 (n.cast rows_numel) :=
  (Equiv.symm_apply_eq _).2 (Fin.ext (by rw [Shape.rowMajor_val_one]; rfl))

/-- Scattering a one per row counts the rows of each class. -/
theorem count_class (idx : IVec S16384x1 32) (z : IVec S1000 32) (u : IVec S16384 32) (hz : ∀ i, z i = 0#32) (hu : ∀ i, u i = 1#32)
    (k : Fin 16384 → Fin 1000) (h : ∀ r, idx (ix2 r 0) = BitVec.ofNat 32 (k r).val) (a : Fin 1000) :
    Host.scatter scatter_S1000_S16384x1_S16384_n_0_0_1 IntOp.addi z idx u (ix1 a)
      = BitVec.ofNat 32 (Finset.univ.filter fun r => a = k r).card := by
  rw [Routing.scatter_at, hz]
  have step : (fun (b : BitVec 32) (n : Fin S16384.numel) =>
        if scatter_S1000_S16384x1_S16384_n_0_0_1.resultIdx? (S16384.rowMajor.symm n) idx = some (ix1 a)
        then IntOp.addi b (u (S16384.rowMajor.symm n)) else b)
      = fun b n => b + BitVec.ofNat 32 (if a = k (n.cast rows_numel) then 1 else 0) := by
    funext b n
    rw [row_at, hu]
    by_cases e : a = k (n.cast rows_numel)
    · rw [if_pos ((lands idx _ _ a (h _)).2 e), if_pos e]; rfl
    · rw [if_neg fun q => e ((lands idx _ _ a (h _)).1 q), if_neg e]; exact (BitVec.add_zero b).symm
  rw [step, show (0#32 : BitVec 32) = BitVec.ofNat 32 0 from rfl,
    foldl_ones (List.finRange S16384.numel) (fun n => if a = k (n.cast rows_numel) then 1 else 0) 0, Nat.zero_add,
    ← Fin.sum_univ_def]
  refine congrArg (BitVec.ofNat 32) ((Equiv.sum_comp (finCongr rows_numel) fun r => if a = k r then 1 else 0).trans ?_)
  rw [Finset.sum_boole]
  rfl

/-- The count of a class, turned into a float, is the sum of ones over its rows. -/
theorem count_float (k : Fin 16384 → Fin 1000) (a : Fin 1000) :
    (((BitVec.ofNat 32 (Finset.univ.filter fun r => a = k r).card).toInt : ℝ) : EReal) = ∑ r, ind (a = k r) := by
  have hle : (Finset.univ.filter fun r => a = k r).card ≤ 16384 := (Finset.card_le_univ _).trans (by simp)
  have e : (BitVec.ofNat 32 (Finset.univ.filter fun r => a = k r).card).toInt = ((Finset.univ.filter fun r => a = k r).card : Int) := by
    rw [BitVec.toInt_ofNat', Int.bmod_eq_of_le] <;> omega
  rw [e, count_ind, Int.cast_natCast]

end Cert.ReferenceIdeal.Lookups

end
-- ==== Proof.Cbl.Mean.lean ====
/- The reference's result, over the extended reals, from the two arguments. -/
module

public import proofs.«01_k».proof.Proof.Gen.ReferenceIdeal.Run
public import proofs.«01_k».proof.Proof.Cbl.Lookups

@[expose] public section

set_option maxRecDepth 16384

noncomputable section

namespace Cert.ReferenceIdeal.Mean

open Cert.ReferenceIdeal Cert.ReferenceIdeal.Gen Cert.ReferenceIdeal.Lookups Cert.Cbl Idealize.ShloMosaic Idealize.ShloMosaic.TcCoe
open Idealize.SL.Sem

variable (x : Vec Ideal S16384x1000 .f32) (t : Vec Ideal S16384 .i32)

/-- The zero that every reduction starts from. -/
abbrev zero : FVec Ideal S_ .f32 := constant S_ .f32 0x00000000#32

/-! ## The reference's values, by name -/

/-- The targets as a column, negative words wrapped. -/
def column : IVec S16384x1 32 :=
  select (cmpi .slt (broadcastInDim S16384x1 ![0] bcast_S16384_S16384x1_0 t) (broadcastInDim S16384x1 ![] bcast_S_S16384x1 (constantI S_ 32 0#32)))
    (addi (broadcastInDim S16384x1 ![0] bcast_S16384_S16384x1_0 t) (broadcastInDim S16384x1 ![] bcast_S_S16384x1 (constantI S_ 32 1000#32)))
    (broadcastInDim S16384x1 ![0] bcast_S16384_S16384x1_0 t)

/-- The targets, negative words wrapped, as a column. -/
def places : IVec S16384x1 32 :=
  broadcastInDim S16384x1 ![0] bcast_S16384_S16384x1_0
    (select (cmpi .slt t (broadcastInDim S16384 ![] bcast_S_S16384 (constantI S_ 32 0#32)))
      (addi t (broadcastInDim S16384 ![] bcast_S_S16384 (constantI S_ 32 1000#32))) t)

/-- The targets, negative words made zero. -/
def clipped : IVec S16384 32 := maxsi (broadcastInDim S16384 ![] bcast_S_S16384 (id (constantI S_ 32 0#32))) t

/-- The logarithm of each row's sum of exponentials. -/
def logSum : FVec Ideal S16384 .f32 := Host.log (Host.reduceAdd (Host.exp x) zero reducesTo_S16384x1000_S16384_d1 h_S_)

/-- Each row's logit of its class. -/
def picked : FVec Ideal S16384 .f32 :=
  shapeCast _ (select (Host.reduce IntOp.andi
      (andi (cmpi .sge (shapeCast _ (column t) shapeCasts_S16384x1_S16384x1x1) (broadcastInDim S16384x1x1 ![] bcast_S_S16384x1x1 (constantI S_ 32 0#32)))
        (cmpi .sle (shapeCast _ (column t) shapeCasts_S16384x1_S16384x1x1) (broadcastInDim S16384x1x1 ![0, 1, 2] bcast_S1x1x1_S16384x1x1_0_1_2 (broadcastInDim S1x1x1 ![2] bcast_S1_S1x1x1_2 (constantI S1 32 999#32)))))
      (constantI S_ 1 1#1) reducesTo_S16384x1x1_S16384x1_d2 h_S_)
    (Host.gather gather_S16384x1000_S16384x1x1_S16384x1_n_1_0_0_1_2_11 x (shapeCast _ (column t) shapeCasts_S16384x1_S16384x1x1))
    (broadcastInDim S16384x1 ![] bcast_S_S16384x1 (constant S_ .f32 0x7FC00000#32))) shapeCasts_S16384x1_S16384

/-- The classes' counts. -/
def hist : IVec S1000 32 :=
  Host.scatter scatter_S1000_S16384x1_S16384_n_0_0_1 IntOp.addi (broadcastInDim S1000 ![] bcast_S_S1000 (constantI S_ 32 0#32))
    (places (clipped t)) (broadcastInDim S16384 ![] bcast_S_S16384 (constantI S_ 32 1#32))

/-- The classes' weights. -/
def weight : FVec Ideal S1000 .f32 :=
  Host.divf (broadcastInDim S1000 ![] bcast_S_S1000 (constant S_ .f32 0x3F800000#32))
    (addf (sitofp .f32 (hist t)) (broadcastInDim S1000 ![] bcast_S_S1000 (constant S_ .f32 0x3727C5AC#32)))

/-- Weights scaled to sum to the number of classes. -/
def scaled (w : FVec Ideal S1000 .f32) : FVec Ideal S1000 .f32 :=
  mulf (Host.divf w (broadcastInDim S1000 ![] bcast_S_S1000 (Host.reduceAdd w zero reducesTo_S1000_S_d0 h_S_)))
    (broadcastInDim S1000 ![] bcast_S_S1000 (constant S_ .f32 0x447A0000#32))

/-- Each row's weight: that of its class. -/
def taken (w : FVec Ideal S1000 .f32) : FVec Ideal S16384 .f32 :=
  select (Host.reduce IntOp.andi
      (andi (cmpi .sge (places t) (broadcastInDim S16384x1 ![] bcast_S_S16384x1 (constantI S_ 32 0#32)))
        (cmpi .sle (places t) (broadcastInDim S16384x1 ![0, 1] bcast_S1x1_S16384x1_0_1 (broadcastInDim S1x1 ![1] bcast_S1_S1x1_1 (constantI S1 32 999#32)))))
      (constantI S_ 1 1#1) reducesTo_S16384x1_S16384_d1 h_S_)
    (Host.gather gather_S1000_S16384x1_S16384_n_0_n_n_0_1_1 w (places t))
    (broadcastInDim S16384 ![] bcast_S_S16384 (constant S_ .f32 0x7FC00000#32))

/-- The reference's mean. -/
def mean : FVec Ideal S_ .f32 :=
  Host.divf (Host.reduceAdd (mulf (subf (logSum x) (picked x t)) (taken t (scaled (weight t)))) zero reducesTo_S16384_S_d0 h_S_)
    (constant S_ .f32 0x46800000#32)

/-- The reference's run ends at this mean of its arguments. -/
theorem result_eq (m : (ℓ : Loc nD τ sig) → Buf (Elt Ideal) ℓ) (c : Dev nD) :
    Value.res_main_v30 m c = mean (m ((c.tc : Thread nD τ).loc main_arg0)) (m ((c.tc : Thread nD τ).loc main_arg1)) := by
  unfold Value.res_main_v30 mean logSum picked taken scaled weight hist column places clipped
  rfl

/-! ## Single steps, at an index -/

/-- A quotient, at an index. -/
theorem div_at {s : Shape} (a b : FVec Ideal s .f32) (i : s.Idx) : Host.divf a b i = Ideal.div (a i) (b i) := rfl

/-- A logarithm, at an index. -/
theorem log_at {s : Shape} (a : FVec Ideal s .f32) (i : s.Idx) : Host.log a i = Ideal.log (a i) := rfl
/-- An exponential, at an index. -/
theorem exp_at {s : Shape} (a : FVec Ideal s .f32) (i : s.Idx) : Host.exp a i = Ideal.exp (a i) := rfl

/-- A sum along the rows of a matrix. -/
theorem sum_rows (v : FVec Ideal S16384x1000 .f32) (r : Fin 16384) :
    Host.reduceAdd v zero reducesTo_S16384x1000_S16384_d1 h_S_ (ix1 r) = ∑ c, (v (ix2 r c) : EReal) := by
  pointwise

/-- A sum over the classes. -/
theorem sum_classes (v : FVec Ideal S1000 .f32) (i : S_.Idx) :
    Host.reduceAdd v zero reducesTo_S1000_S_d0 h_S_ i = ∑ c, (v (ix1 c) : EReal) := by
  pointwise

/-- A sum over the rows. -/
theorem sum_all (v : FVec Ideal S16384 .f32) (i : S_.Idx) :
    Host.reduceAdd v zero reducesTo_S16384_S_d0 h_S_ i = ∑ r, (v (ix1 r) : EReal) := by
  pointwise

/-- A vector as a column, at a row. -/
theorem col_at {α : Type} (v : S16384.Idx → α) (r : Fin 16384) :
    broadcastInDim S16384x1 ![0] bcast_S16384_S16384x1_0 v (ix2 r 0) = v (ix1 r) := by
  pointwise

/-- A column with one more axis, at a row. -/
theorem deep_at {α : Type} (v : S16384x1.Idx → α) (r : Fin 16384) :
    shapeCast S16384x1x1 v shapeCasts_S16384x1_S16384x1x1 (ix3 r 0 0) = v (ix2 r 0) := by
  pointwise

/-- A column as a vector, at a row. -/
theorem flat_at {α : Type} (v : S16384x1.Idx → α) (r : Fin 16384) :
    shapeCast S16384 v shapeCasts_S16384x1_S16384 (ix1 r) = v (ix2 r 0) := by
  pointwise

/-- Every index of a vector is a row. -/
theorem eta1 (i : S16384.Idx) : ∃ r, i = ix1 r := ⟨i 0, by funext a; match a with | ⟨0, _⟩ => rfl⟩
/-- Every index of a column is a row. -/
theorem eta2 (i : S16384x1.Idx) : ∃ r, i = ix2 r 0 := ⟨i 0, by
  funext a
  match a with
  | ⟨0, _⟩ => rfl
  | ⟨1, _⟩ => exact Subsingleton.elim (α := Fin 1) _ _⟩
/-- Every index of a column with one more axis is a row. -/
theorem eta3 (i : S16384x1x1.Idx) : ∃ r, i = ix3 r 0 0 := ⟨i 0, by
  funext a
  match a with
  | ⟨0, _⟩ => rfl
  | ⟨1, _⟩ => exact Subsingleton.elim (α := Fin 1) _ _
  | ⟨2, _⟩ => exact Subsingleton.elim (α := Fin 1) _ _⟩

/-- The logarithm of a row's sum of exponentials. -/
theorem logSum_at (r : Fin 16384) : logSum x (ix1 r) = Ideal.log (∑ c, Ideal.exp (x (ix2 r c))) := by
  unfold logSum
  rw [log_at, sum_rows, Finset.sum_congr rfl fun c _ => exp_at x (ix2 r c)]

/-! ## The values, at an index, when each target names a class -/

section
variable (k : Fin 16384 → Fin 1000) (ht : ∀ r, t (ix1 r) = BitVec.ofNat 32 (k r).val)
include ht

theorem column_at (r : Fin 16384) : column t (ix2 r 0) = BitVec.ofNat 32 (k r).val := by
  unfold column
  exact wrap_at _ _ _ (fun _ => rfl) _ _ ((col_at t r).trans (ht r))

theorem places_at (r : Fin 16384) : places t (ix2 r 0) = BitVec.ofNat 32 (k r).val := by
  unfold places
  rw [col_at]
  exact wrap_at _ _ _ (fun _ => rfl) _ _ (ht r)

theorem clipped_at (r : Fin 16384) : clipped t (ix1 r) = BitVec.ofNat 32 (k r).val := by
  show IntOp.maxsi 0#32 (t (ix1 r)) = _
  rw [ht, word_max]

/-- Each row's picked logit is the one of its class. -/
theorem picked_at (r : Fin 16384) : picked x t (ix1 r) = x (ix2 r (k r)) := by
  unfold picked
  rw [flat_at, select_set]
  · exact take_along x _ r (k r) ((deep_at _ r).trans (column_at t k ht r))
  · refine Host.reduce_andi_one _ _ _ _ _ rfl fun i => ?_
    obtain ⟨q, rfl⟩ := eta3 i
    exact range_at _ _ _ (fun _ => rfl) (fun _ => rfl) _ ⟨k q, (deep_at _ q).trans (column_at t k ht q)⟩

/-- Each row's weight is the one of its class. -/
theorem taken_at (w : FVec Ideal S1000 .f32) (r : Fin 16384) : taken t w (ix1 r) = w (ix1 (k r)) := by
  unfold taken
  rw [select_set]
  · exact take_class w _ r (k r) (places_at t k ht r)
  · refine Host.reduce_andi_one _ _ _ _ _ rfl fun i => ?_
    obtain ⟨q, rfl⟩ := eta2 i
    exact range_at _ _ _ (fun _ => rfl) (fun _ => rfl) _ ⟨k q, places_at t k ht q⟩

/-- A class's weight is one over its smoothed count. -/
theorem weight_at (a : Fin 1000) :
    weight t (ix1 a) = Ideal.div 1 (∑ r, ind (a = k r) + Ideal.ofBits .f32 0x3727C5AC#32) := by
  have h : hist t (ix1 a) = BitVec.ofNat 32 (Finset.univ.filter fun r => a = k r).card := by
    unfold hist
    exact count_class _ _ _ (fun _ => rfl) (fun _ => rfl) k (places_at (clipped t) k (clipped_at t k ht)) a
  have hs : (sitofp (F := Ideal) .f32 (hist t) (ix1 a) : EReal) = ∑ r, ind (a = k r) := by
    rw [← count_float, ← h]
    rfl
  have ho : (broadcastInDim S1000 ![] bcast_S_S1000 (constant (F := Ideal) S_ .f32 0x3F800000#32) (ix1 a) : EReal) = 1 :=
    Ideal.ofBits_one_f32
  unfold weight
  rw [div_at, ho, ← hs]
  rfl

/-- A scaled weight: the weight over the weights' sum, times the number of classes. -/
theorem scaled_at (w : FVec Ideal S1000 .f32) (a : Fin 1000) :
    scaled w (ix1 a) = (Ideal.div (w (ix1 a)) (∑ b, (w (ix1 b) : EReal)) * Ideal.ofBits .f32 0x447A0000#32 : EReal) := by
  have hb : (broadcastInDim S1000 ![] bcast_S_S1000 (Host.reduceAdd w zero reducesTo_S1000_S_d0 h_S_) (ix1 a) : EReal) = ∑ b, (w (ix1 b) : EReal) :=
    sum_classes w _
  unfold scaled
  rw [← hb]
  rfl

/-- The reference's mean: each row's loss times the scaled weight of its class, summed, over the number of rows. -/
theorem mean_eq (i : S_.Idx) :
    mean x t i = Ideal.div
      (∑ r, (Ideal.log (∑ c, Ideal.exp (x (ix2 r c))) - x (ix2 r (k r)))
        * (Ideal.div (weight t (ix1 (k r))) (∑ a, (weight t (ix1 a) : EReal)) * Ideal.ofBits .f32 0x447A0000#32))
      (Ideal.ofBits .f32 0x46800000#32) := by
  unfold mean
  rw [div_at, sum_all]
  refine congrArg (fun s => Ideal.div s (Ideal.ofBits .f32 0x46800000#32)) (Finset.sum_congr rfl fun r _ => ?_)
  rw [← logSum_at x r, ← picked_at x t k ht r, ← scaled_at t k ht (weight t) (k r), ← taken_at t k ht (scaled (weight t)) r]
  rfl

end

end Cert.ReferenceIdeal.Mean

end
-- ==== Proof.Cbl.Classes.lean ====
/- What the precondition says of the arguments: no logit is `⊤`, and every target is the word of a class. -/
module

public import proofs.«01_k».proof.Pre_targets_name_classes
public import Idealize.ShloMosaic.Lib.Pointwise
public import Idealize.ShloMosaic.Lib.ReduceAll
public import Idealize.ShloMosaic.PureOps.Ideal

@[expose] public section

set_option maxRecDepth 16384

noncomputable section

namespace Cert.Pre_targets_name_classes.Read

open Cert.Pre_targets_name_classes Idealize.ShloMosaic

/-- The shape facts that the precondition takes. -/
theorem shapes : Facts where
  bcast_S_S16384x1000 := by decide
  reducesTo_S16384x1000_S_d0_1 := by decide
  h_S_ := by decide
  bcast_S_S16384 := by decide
  reducesTo_S16384_S_d0 := by decide

instance : Facts := shapes
instance : Subsingleton S_.Idx := ⟨fun _ _ => funext fun a => a.elim0⟩

/-- The comparison against the infinite word reads: less than `⊤`. -/
theorem below_top (x : EReal) (h : Ideal.cmp .olt x (Ideal.ofBits .f32 0x7F800000#32) = 1#1) : x < ⊤ := by
  have e : Ideal.ofBits .f32 0x7F800000#32 = ⊤ := by simp [Ideal.ofBits, Ideal.ieee]
  rw [e] at h
  by_contra hn
  have hd : decide (x < ⊤) = false := decide_eq_false hn
  change BitVec.ofBool (decide (x < ⊤)) = 1#1 at h
  rw [hd] at h
  exact absurd h (by decide)

/-- A word that is at least zero and below `1000`, both signed, is the word of a class. -/
theorem class_word (w : BitVec 32) (h0 : IntOp.cmpi .sge w 0#32 = 1#1) (h1 : IntOp.cmpi .slt w 1000#32 = 1#1) :
    ∃ k : Fin 1000, w = BitVec.ofNat 32 k.val := by
  have a := IntOp.cmpi_sge.1 h0
  have b := IntOp.cmpi_slt.1 h1
  have ha : (0#32).toInt = 0 := by decide
  have hb : (1000#32).toInt = 1000 := by decide
  rw [ha] at a
  rw [hb] at b
  have hn : w.toNat < 1000 := by
    rw [BitVec.toInt_eq_toNat_cond] at a b
    have := w.isLt
    split at a <;> omega
  exact ⟨⟨w.toNat, hn⟩, BitVec.eq_of_toNat_eq (by rw [BitVec.toNat_ofNat, Nat.mod_eq_of_lt (by show w.toNat < _; omega)])⟩

/-- The precondition, read: every logit is below `⊤` and every target is the word of a class. -/
theorem read (x : FVec Ideal S16384x1000 .f32) (t : IVec S16384 32) (h : fn (F := Ideal) x t = fun _ => 1#1) :
    (∀ r c, x (ix2 r c) < (⊤ : EReal)) ∧ ∃ k : Fin 16384 → Fin 1000, ∀ r, t (ix1 r) = BitVec.ofNat 32 (k r).val := by
  have h := congrFun h ix0
  unfold fn at h
  dsimp only at h
  obtain ⟨h, h3⟩ := IntOp.andi_eq_one.1 h
  obtain ⟨h1, h2⟩ := IntOp.andi_eq_one.1 h
  have a1 := fun i => Host.reduce_andi_all _ _ _ _ _ h1 i
  have a2 := fun i => Host.reduce_andi_all _ _ _ _ _ h2 i
  have a3 := fun i => Host.reduce_andi_all _ _ _ _ _ h3 i
  have ht : ∀ r, ∃ k : Fin 1000, t (ix1 r) = BitVec.ofNat 32 k.val := fun r => class_word _ (a2 (ix1 r)) (a3 (ix1 r))
  exact ⟨fun r c => below_top _ (a1 (ix2 r c)), fun r => (ht r).choose, fun r => (ht r).choose_spec⟩

end Cert.Pre_targets_name_classes.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Cbl.Run
public import proofs.«01_k».proof.Proof.Cbl.Mean
public import proofs.«01_k».proof.Proof.Cbl.Classes
public import Idealize.ShloMosaic.Adequacy
public import Idealize.ShloMosaic.Init
public import Idealize.ShloMosaic.Lib.Claim

@[expose] public section

noncomputable section

namespace Cert.Proof

open Idealize.ShloMosaic Idealize.SL.Sem

/-- Where the arguments agree and meet the precondition, the reference's result is the word that the kernel stores. -/
theorem results_agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (hp : Pre_targets_name_classes.fn (F := Ideal) (KernelIdeal.Reads.logits m c) (KernelIdeal.Reads.targets m c) = fun _ => 1#1)
    (h : m' ((c.tc : Thread ReferenceIdeal.nD ReferenceIdeal.τ).loc ReferenceIdeal.main_arg0) = KernelIdeal.Reads.logits m c
      ∧ m' ((c.tc : Thread ReferenceIdeal.nD ReferenceIdeal.τ).loc ReferenceIdeal.main_arg1) = KernelIdeal.Reads.targets m c) :
    ReferenceIdeal.Value.res_main_v30 m' c = fun _ => KernelIdeal.Sweep.word m c := by
  obtain ⟨hx, k, ht⟩ := Pre_targets_name_classes.Read.read _ _ hp
  rw [ReferenceIdeal.Mean.result_eq, h.1, h.2]
  funext i
  rw [ReferenceIdeal.Mean.mean_eq _ _ k ht i,
    KernelIdeal.Value.word_eq m c k ht hx (fun a => ReferenceIdeal.Mean.weight (KernelIdeal.Reads.targets m c) (ix1 a))
      fun a => ReferenceIdeal.Mean.weight_at _ k ht a]
  unfold KernelIdeal.Value.rowLoss
  rfl

/-- The kernel's idealization and the reference's, from arguments that agree and meet the precondition, end with equal results:
    the mean, over the rows, of the row's cross entropy times the scaled weight of its class. -/
theorem equal_results : algebraic_KernelIdeal_ReferenceIdeal_pre_targets_name_classes := by
  pair_intro
  · exact KernelIdeal.Value.run m g
  · refine (θ_run _ _ _).mono (fun r h c => ⟨(h c).1.trans ?_, (h c).2⟩) (ReferenceIdeal.Value.run m' g')
    exact results_agree m m' c (hpre c) (hagree c)

/-- The reference ends with its arguments unchanged, and it has no semaphore. -/
theorem reference_frame : quiescent_ReferenceIdeal := fun m g _ =>
  (θ_run _ _ _).mono (fun r h => ⟨fun c => (h c).2, sem_eq_zero_of_no_sems (by decide) r.2⟩) (ReferenceIdeal.Value.run m g)

theorem claim : Cert.Claim :=
  ⟨Cert.Kernel.Gen.facts, Cert.KernelIdeal.Gen.facts, Cert.ReferenceIdeal.Gen.facts, Cert.Pre_targets_name_classes.Read.shapes,
    fun m g _ => Cert.Kernel.Gen.frame m g, fun m g _ => Cert.KernelIdeal.Gen.frame m g, fun m g _ => Cert.KernelIdeal.Gen.frame m g,
    fun m g _ => reference_frame m g trivial, fun m g _ => reference_frame m g trivial, trivial, equal_results⟩

end Cert.Proof

end
